-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S500000x128 : Shape := ⟨2, ![500000, 128]⟩
abbrev S128x128 : Shape := ⟨2, ![128, 128]⟩
abbrev S1 : Shape := ⟨1, ![1]⟩
abbrev S_ : Shape := ⟨0, ![]⟩
abbrev S20000x128 : Shape := ⟨2, ![20000, 128]⟩
abbrev S20000 : Shape := ⟨1, ![20000]⟩
abbrev S20000x1 : Shape := ⟨2, ![20000, 1]⟩
abbrev S128 : Shape := ⟨1, ![128]⟩
abbrev S1x128 : Shape := ⟨2, ![1, 128]⟩
abbrev S1x1 : Shape := ⟨2, ![1, 1]⟩

abbrev nBuf : Space → Nat
  | .hbm => 5
  | .vmem => 6
  | .smem => 1
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S128x128, .f32⟩
  | .hbm, ⟨3, _⟩ => ⟨S1, .f32⟩
  | .hbm, ⟨4, _⟩ => ⟨S_, .f32⟩
  | .local _ .vmem, ⟨0, _⟩ => ⟨S20000x128, .f32⟩
  | .local _ .vmem, ⟨1, _⟩ => ⟨S20000x128, .f32⟩
  | .local _ .vmem, ⟨2, _⟩ => ⟨S20000x128, .f32⟩
  | .local _ .vmem, ⟨3, _⟩ => ⟨S20000x128, .f32⟩
  | .local _ .vmem, ⟨4, _⟩ => ⟨S128x128, .f32⟩
  | .local _ .vmem, ⟨5, _⟩ => ⟨S128x128, .f32⟩
  | .local _ .smem, ⟨0, _⟩ => ⟨S1, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v41 : BitVec 1 := Scalar.cmpi .eq arg0 c24_i32
  let v42 : BitVec 32 := Scalar.extui v41
  let c0_i32_16 : BitVec 32 := 0#32
  let v43 : BitVec 1 := Scalar.cmpi .ne v42 c0_i32_16
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S500000x128 : Shape := ⟨2, ![500000, 128]⟩
abbrev S128x128 : Shape := ⟨2, ![128, 128]⟩
abbrev S_ : Shape := ⟨0, ![]⟩
abbrev S500000 : Shape := ⟨1, ![500000]⟩
abbrev S500000x1 : Shape := ⟨2, ![500000, 1]⟩
abbrev S500000x2 : Shape := ⟨2, ![500000, 2]⟩
abbrev S128 : Shape := ⟨1, ![128]⟩
abbrev S128x1 : Shape := ⟨2, ![128, 1]⟩
abbrev S128x2 : Shape := ⟨2, ![128, 2]⟩

abbrev nBuf : Space → Nat
  | .hbm => 66
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S128x128, .f32⟩
  | .hbm, ⟨3, _⟩ => ⟨S500000x128, .i32⟩
  | .hbm, ⟨4, _⟩ => ⟨S_, .f32⟩
  | .hbm, ⟨5, _⟩ => ⟨S_, .i32⟩
  | .hbm, ⟨6, _⟩ => ⟨S500000, .f32⟩
  | .hbm, ⟨7, _⟩ => ⟨S500000, .i32⟩
  | .hbm, ⟨8, _⟩ => ⟨S500000x128, .i32⟩
  | .hbm, ⟨9, _⟩ => ⟨S_, .f32⟩
  | .hbm, ⟨10, _⟩ => ⟨S_, .i32⟩
  | .hbm, ⟨11, _⟩ => ⟨S500000, .f32⟩
  | .hbm, ⟨12, _⟩ => ⟨S500000, .i32⟩
  | .hbm, ⟨13, _⟩ => ⟨S_, .f32⟩
  | .hbm, ⟨14, _⟩ => ⟨S128x128, .f32⟩
  | .hbm, ⟨15, _⟩ => ⟨S_, .i32⟩
  | .hbm, ⟨16, _⟩ => ⟨S500000, .i32⟩
  | .hbm, ⟨17, _⟩ => ⟨S500000, .i1⟩
  | .hbm, ⟨18, _⟩ => ⟨S_, .i32⟩
  | .hbm, ⟨19, _⟩ => ⟨S500000, .i32⟩
  | .hbm, ⟨20, _⟩ => ⟨S500000, .i32⟩
  | .hbm, ⟨21, _⟩ => ⟨S500000, .i32⟩
  | .hbm, ⟨22, _⟩ => ⟨S_, .i32⟩
  | .hbm, ⟨23, _⟩ => ⟨S500000, .i32⟩
  | .hbm, ⟨24, _⟩ => ⟨S500000, .i1⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S500000, .i32⟩
  | .hbm, ⟨29, _⟩ => ⟨S500000x1, .i32⟩
  | .hbm, ⟨30, _⟩ => ⟨S500000x1, .i32⟩
  | .hbm, ⟨31, _⟩ => ⟨S500000x2, .i32⟩
  | .hbm, ⟨32, _⟩ => ⟨S_, .f32⟩
  | .hbm, ⟨33, _⟩ => ⟨S500000, .f32⟩
  | .hbm, ⟨34, _⟩ => ⟨S128x128, .f32⟩
  | .hbm, ⟨35, _⟩ => ⟨S128x128, .f32⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S_, .i32⟩
  | .hbm, ⟨42, _⟩ => ⟨S128, .i32⟩
  | .hbm, ⟨43, _⟩ => ⟨S128, .i32⟩
  | .hbm, ⟨44, _⟩ => ⟨S128, .i32⟩
  | .hbm, ⟨45, _⟩ => ⟨S_, .i32⟩
  | .hbm, ⟨46, _⟩ => ⟨S128, .i32⟩
  | .hbm, ⟨47, _⟩ => ⟨S128, .i1⟩
  | .hbm, ⟨48, _⟩ => ⟨S_, .i32⟩
  | .hbm, ⟨49, _⟩ => ⟨S128, .i32⟩
  | .hbm, ⟨50, _⟩ => ⟨S128, .i32⟩
  | .hbm, ⟨51, _⟩ => ⟨S128, .i32⟩
  | .hbm, ⟨52, _⟩ => ⟨S128x1, .i32⟩
  | .hbm, ⟨53, _⟩ => ⟨S128x1, .i32⟩
  | .hbm, ⟨54, _⟩ => ⟨S128x2, .i32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_c : Ref sig .tc := ⟨.hbm, 5, rfl⟩
abbrev main_call0_v1_0 : Ref sig .tc := ⟨.hbm, 6, rfl⟩
abbrev main_v0 : Ref sig .tc := ⟨.hbm, 7, rfl⟩
abbrev main_call1_v0 : Ref sig .tc := ⟨.hbm, 8, rfl⟩
abbrev main_call1_cst : Ref sig .tc := ⟨.hbm, 9, rfl⟩
abbrev main_call1_c : Ref sig .tc := ⟨.hbm, 10, rfl⟩
abbrev main_call1_v1_0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_cst_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩
abbrev main_cst_11 : Ref sig .tc := ⟨.hbm, 64, rfl⟩
abbrev main_v40 : Ref sig .tc := ⟨.hbm, 65, rfl⟩

abbrev nD : Nat := 1
abbrev τ : Topo := Topo.v7x

variable {F : FTy → Type} [FloatOps F]
-- ==== Proof.Row.lean ====
/-
  One row of 128 extended reals and the position of its first greatest element, with no program in sight.

  `IsFirst f i` says that `i` is the least position at which `f` is greatest; exactly one position is. The
  kernel finds it by counting, from the left, the elements equal to the row's maximum (`mark_eq`); the
  reference finds it by folding the pairs (element, position) with a reducer (Proof/ArgMax.lean).
-/
module

public import Mathlib.Data.EReal.Operations
public import Mathlib.Algebra.BigOperators.Fin
public import Mathlib.Data.Finset.Fold

@[expose] public section

noncomputable section

namespace Cert.Recall

open scoped BigOperators

/-- `i` is the first position at which the row `f` is greatest. -/
def IsFirst {n : ℕ} (f : Fin n → EReal) (i : Fin n) : Prop := (∀ j, f j ≤ f i) ∧ ∀ j, j < i → f j < f i

/-- A row has at most one first greatest position. -/
theorem IsFirst.unique {n : ℕ} {f : Fin n → EReal} {i j : Fin n} (hi : IsFirst f i) (hj : IsFirst f j) : i = j := by
  rcases lt_trichotomy i j with h | h | h
  · exact absurd (hj.2 i h) (not_lt.2 (hi.1 j))
  · exact h
  · exact absurd (hi.2 j h) (not_lt.2 (hj.1 i))

open Classical in
/-- The row's one-hot mark: `1` at its first greatest position, `0` elsewhere. -/
def mark {n : ℕ} (f : Fin n → EReal) (i : Fin n) : EReal := if IsFirst f i then 1 else 0

/-- The product of two marks is the mark of both. -/
theorem mark_mul_mark {n : ℕ} (f g : Fin n → EReal) (i j : Fin n) [Decidable (IsFirst f i ∧ IsFirst g j)] :
    mark f i * mark g j = if IsFirst f i ∧ IsFirst g j then 1 else 0 := by
  unfold mark
  by_cases h : IsFirst f i <;> by_cases h' : IsFirst g j <;> simp [h, h']

/-- A position carries the row's maximum (the fold of `max` from `⊥`) exactly when no element exceeds its own. -/
theorem eq_fold_max_iff {n : ℕ} (f : Fin n → EReal) (i : Fin n) :
    f i = (Finset.univ : Finset (Fin n)).fold max ⊥ f ↔ ∀ j, f j ≤ f i := by
  constructor
  · intro h j
    rw [h]
    exact (Finset.le_fold_max _).2 (Or.inr ⟨j, Finset.mem_univ _, le_rfl⟩)
  · intro h
    refine le_antisymm ((Finset.le_fold_max _).2 (Or.inr ⟨i, Finset.mem_univ _, le_rfl⟩)) ?_
    exact (Finset.fold_max_le _).2 ⟨bot_le, fun j _ => h j⟩

open Classical in
/-- How many positions up to `c` carry the row's maximum. -/
def hitsUpTo {n : ℕ} (f : Fin n → EReal) (c : Fin n) : Finset (Fin n) :=
  Finset.univ.filter fun k => (∀ j, f j ≤ f k) ∧ k ≤ c

/-- Among the positions that carry the maximum, the first is the one with exactly one of them up to it. -/
theorem isFirst_iff_card {n : ℕ} (f : Fin n → EReal) (c : Fin n) (hc : ∀ j, f j ≤ f c) :
    (hitsUpTo f c).card = 1 ↔ IsFirst f c := by
  classical
  have hmem : c ∈ hitsUpTo f c := Finset.mem_filter.2 ⟨Finset.mem_univ _, hc, le_rfl⟩
  constructor
  · intro h
    refine ⟨hc, fun j hj => lt_of_le_of_ne (hc j) fun e => ?_⟩
    have hj' : j ∈ hitsUpTo f c := Finset.mem_filter.2 ⟨Finset.mem_univ _, fun k => e ▸ hc k, hj.le⟩
    exact absurd (Finset.card_le_one.1 h.le j hj' c hmem) hj.ne
  · intro h
    refine Finset.card_eq_one.2 ⟨c, Finset.eq_singleton_iff_unique_mem.2 ⟨hmem, fun k hk => ?_⟩⟩
    obtain ⟨-, hk, hkc⟩ := Finset.mem_filter.1 hk
    exact hkc.eq_or_lt.elim id fun hlt => absurd (h.2 k hlt) (not_lt.2 (hk c))

open Classical in
/-- The kernel's mark of a row: where the running count of maxima is one, whether the element is a maximum; zero
    elsewhere. It is the row's one-hot mark. -/
theorem mark_eq {n : ℕ} (f : Fin n → EReal) (c : Fin n) :
    (if ∑ k : Fin n, (if f k = (Finset.univ : Finset (Fin n)).fold max ⊥ f then (1 : EReal) else 0) * (if k ≤ c then 1 else 0) = 1 then
      (if f c = (Finset.univ : Finset (Fin n)).fold max ⊥ f then (1 : EReal) else 0) else 0) = mark f c := by
  have hsum : ∑ k : Fin n, (if f k = (Finset.univ : Finset (Fin n)).fold max ⊥ f then (1 : EReal) else 0) * (if k ≤ c then 1 else 0)
      = (((hitsUpTo f c).card : ℕ) : EReal) := by
    rw [hitsUpTo, Finset.card_filter, Nat.cast_sum]
    refine Finset.sum_congr rfl fun k _ => ?_
    by_cases h : ∀ j, f j ≤ f k <;> by_cases h' : k ≤ c <;> simp [eq_fold_max_iff, h, h']
  rw [hsum, mark]
  simp only [eq_fold_max_iff]
  by_cases hc : ∀ j, f j ≤ f c
  · rw [if_pos hc]
    have : (((hitsUpTo f c).card : ℕ) : EReal) = 1 ↔ IsFirst f c := by
      rw [← isFirst_iff_card f c hc]; exact_mod_cast Iff.rfl
    simp only [this]
  · rw [if_neg hc, if_neg fun h : IsFirst f c => hc h.1]
    simp

end Cert.Recall
end
-- ==== Proof.Table.lean ====
/-
  The table both programs compute, and the sum of its recalls: plain definitions over the extended reals.
-/
module

public import proofs.«01_k».proof.Proof.Row
public import Idealize.ShloMosaic.PureOps.Ideal.Laws
public import Idealize.ShloMosaic.Lib.ValueIdx

@[expose] public section

noncomputable section

namespace Cert.Recall

open Idealize.ShloMosaic Idealize.ShloMosaic.ValueIdx
open scoped BigOperators

/-- Row `n` of an array with 128 columns. -/
abbrev row {A : ℕ} (x : (⟨2, ![A, 128]⟩ : Shape).Idx → EReal) (n : Fin A) : Fin 128 → EReal := fun k => x (ix2 n k)

/-- How many rows have their first greatest element at `i` in the array `x` and at `j` in the array `y`. -/
def count {A : ℕ} (x y : (⟨2, ![A, 128]⟩ : Shape).Idx → EReal) (i j : Fin 128) : EReal :=
  ∑ n : Fin A, mark (row x n) i * mark (row y n) j

/-- The small number that both programs add to a row's sum before they divide. -/
def eps : EReal := Ideal.ofBits .f32 0x34000000#32

/-- The recalls of a table, added up: its diagonal, each entry over its row's sum plus `eps`. -/
def recallSum (t : Fin 128 → Fin 128 → EReal) : EReal := ∑ r : Fin 128, Ideal.div (t r r) ((∑ c : Fin 128, t r c) + eps)

/-- The factor by which the kernel turns the sum of 128 recalls into their average. -/
def oneOver128 : EReal := Ideal.ofBits .f32 0x3C000000#32

/-- The number of classes, as the reference divides by it. -/
def classes : EReal := Ideal.ofBits .f32 0x43000000#32

/-- Dividing by 128 is multiplying by its reciprocal, on every extended real. -/
theorem div_classes (x : EReal) : Ideal.div x classes = x * oneOver128 := by
  have h : classes = ((128 : ℝ) : EReal) := by
    simp [classes, Ideal.ofBits, Ideal.ieee, -EReal.coe_mul]
    norm_num
  have h' : oneOver128 = ((1 / 128 : ℝ) : EReal) := by
    simp [oneOver128, Ideal.ofBits, Ideal.ieee, -EReal.coe_mul]
    norm_num
  rw [h, h', Ideal.div_coe (by norm_num)]

/-- Reducing the last axis of an [A, B] array: the index lifted from row `r` at `k` is `(r, k)`. -/
theorem lift_row {A B : ℕ} (h : (⟨2, ![A, B]⟩ : Shape).Reduces [1] ⟨1, ![A]⟩) (r : Fin A) (k : Fin B) :
    h.lift (ix1 r) k = ix2 r k := by
  funext a
  apply Fin.ext
  match a with
  | ⟨0, _⟩ => rfl
  | ⟨1, _⟩ => rfl

end Cert.Recall
end
-- ==== Proof.Block.lean ====
/-
  What one block of the kernel computes: the counts of one 20000-row block, and the closing average.

  `k0_pay4_apply` reads the table that the kernel stores after a block: the table before it plus, at (i, j), the number
  of rows of the block whose first greatest element stands at i in one array and at j in the other.
-/
module

public import proofs.«01_k».proof.Proof.Table
public import proofs.«01_k».proof.Proof.Gen.KernelIdeal.Skeleton
public import Idealize.ShloMosaic.PureOps.Ideal.Laws
public import Idealize.ShloMosaic.Lib.WordCmp
public import Idealize.ShloMosaic.Lib.ValueIdx
public import Idealize.ShloMosaic.Lib.IdealHost
public import Idealize.ShloMosaic.Lib.MatmulPlain
public import Idealize.ShloMosaic.Lib.Pipeline.Value

@[expose] public section

noncomputable section

namespace Cert.Recall

open Idealize.ShloMosaic Idealize.ShloMosaic.ValueIdx Idealize.ShloMosaic.WordCmp Cert.KernelIdeal Cert.KernelIdeal.Gen
open scoped BigOperators

local notation "I" => Idealize.ShloMosaic.Ideal

/-- A truth bit, widened to a word and converted, is one or zero. -/
theorem bit_val (p : Prop) [Decidable p] :
    (FloatOps.sitofp (F := I) .f32 ((BitVec.ofBool (decide p)).setWidth 32) : EReal) = if p then 1 else 0 := by
  show (((BitVec.ofBool (decide p)).setWidth 32).toInt : ℝ) = (_ : EReal)
  have h1 : ((BitVec.ofBool true).setWidth 32).toInt = 1 := by decide
  have h0 : ((BitVec.ofBool false).setWidth 32).toInt = 0 := by decide
  by_cases h : p
  · rw [decide_eq_true h, if_pos h, h1]; norm_num
  · rw [decide_eq_false h, if_neg h, h0]; norm_num

/-- A vector stood up as a column and spread over 128 columns reads back the vector. -/
theorem column_apply {A : ℕ} {α : Type} (v : (⟨1, ![A]⟩ : Shape).Idx → α) (hs : (⟨1, ![A]⟩ : Shape).ShapeCasts ⟨2, ![A, 1]⟩)
    (hb : (⟨2, ![A, 1]⟩ : Shape).Broadcasts ⟨2, ![A, 128]⟩) (hA : A ≠ 1) (r : Fin A) (k : Fin 128) :
    broadcastTo ⟨2, ![A, 128]⟩ (shapeCast ⟨2, ![A, 1]⟩ v hs) hb (ix2 r k) = v (ix1 r) := by
  rw [broadcastTo_apply _ hb (ix2 r k) (ix2 r (0 : Fin 1)) fun a => ?_]
  · refine shapeCast_apply v hs _ _ ?_
    rw [Shape.rowMajor_val_one, Shape.rowMajor_val_two]
    show r.val = r.val * 1 + 0
    omega
  · match a with
    | ⟨0, _⟩ => show r.val = if A = 1 then 0 else r.val; rw [if_neg hA]
    | ⟨1, _⟩ => rfl

/-- The kernel's marks of the elements equal to their row's maximum. -/
def hits (x : FVec I S20000x128 .f32) : FVec I S20000x128 .bf16 :=
  truncf .bf16 (sitofp .f32 (extui 32 (cmpf .oeq x (broadcastTo S20000x128 (shapeCast S20000x1
    (multiReduction .maximumf [1] S20000 x 0xFF800000#32 reduces_S20000x128_S20000 (.inl rfl) rfl) shapeCasts_S20000_S20000x1)
    broadcasts_S20000x1_S20000x128)) natLt_1_32) : FVec I S20000x128 .f32) bitsLt_bf16_f32

/-- The kernel's upper triangle of ones. -/
def upper : FVec I S128x128 .bf16 :=
  truncf .bf16 (sitofp .f32 (extui 32 (cmpi .sle (iota .tc S128x128 32 [0] iota_S128x128_d0_w32)
    (iota .tc S128x128 32 [1] iota_S128x128_d1_w32)) natLt_1_32) : FVec I S128x128 .f32) bitsLt_bf16_f32

/-- The kernel's one-hot rows: the marks kept where their running count is one. -/
def firsts (x : FVec I S20000x128 .f32) : FVec I S20000x128 .bf16 :=
  select (cmpf .oeq (matmul dot_S20000x128_S128x128_S20000x128_1_0_0_1_n_n none (hits x) upper (constant S20000x128 .f32 0x00000000#32))
    (broadcast S20000x128 (Scalar.ofBits .f32 0x3F800000#32))) (hits x) (broadcast S20000x128 (Scalar.ofBits .bf16 0x0000#16))

theorem ofBits_neg_inf' : (FloatOps.ofBits .f32 0xFF800000#32 : I .f32) = (⊥ : EReal) := by
  show Ideal.ofBits .f32 0xFF800000#32 = ⊥
  simp [Ideal.ofBits, Ideal.ieee]

open Classical in
/-- An element is marked exactly when it is its row's maximum. -/
theorem hits_apply (x : FVec I S20000x128 .f32) (r : Fin 20000) (k : Fin 128) :
    hits x (ix2 r k) = if x (ix2 r k) = (Finset.univ : Finset (Fin 128)).fold max ⊥ (fun k => x (ix2 r k)) then (1 : EReal) else 0 := by
  have e : (broadcastTo S20000x128 (shapeCast S20000x1
      (multiReduction .maximumf [1] S20000 x 0xFF800000#32 reduces_S20000x128_S20000 (.inl rfl) rfl) shapeCasts_S20000_S20000x1)
      broadcasts_S20000x1_S20000x128 : FVec I S20000x128 .f32) (ix2 r k) = (Finset.univ : Finset (Fin 128)).fold max (⊥ : EReal) (fun k => x (ix2 r k)) := by
    rw [column_apply _ _ _ (by norm_num) r k]
    refine (Ideal.multiReduction_maximumf_single x _ _ _ _ (ix1 r)).trans ?_
    rw [ofBits_neg_inf']
    refine congrArg (Finset.fold max (⊥ : EReal) · Finset.univ) (funext fun k => ?_)
    exact congrArg x (lift_row _ r k)
  refine (bit_val (x (ix2 r k) = (broadcastTo S20000x128 (shapeCast S20000x1
      (multiReduction .maximumf [1] S20000 x 0xFF800000#32 reduces_S20000x128_S20000 (.inl rfl) rfl) shapeCasts_S20000_S20000x1)
      broadcasts_S20000x1_S20000x128 : FVec I S20000x128 .f32) (ix2 r k))).trans ?_
  rw [e]

/-- The triangle is one on and above the diagonal. -/
theorem upper_apply (k c : Fin 128) : upper (ix2 k c) = if k ≤ c then (1 : EReal) else 0 := by
  have e : cmpi .sle (iota .tc S128x128 32 [0] iota_S128x128_d0_w32) (iota .tc S128x128 32 [1] iota_S128x128_d1_w32) (ix2 k c)
      = BitVec.ofBool (decide (k ≤ c)) := by
    show IntOp.cmpi .sle (BitVec.ofNat 32 (0 * 128 + k.val)) (BitVec.ofNat 32 (0 * 128 + c.val)) = _
    have := k.isLt
    have := c.isLt
    rw [cmpi_sle_eq, toInt_ofNat_of_lt (by omega), toInt_ofNat_of_lt (by omega)]
    congr 1
    exact decide_eq_decide.2 (by rw [Fin.le_def]; omega)
  show FloatOps.sitofp (F := I) .f32 ((cmpi .sle _ _ (ix2 k c)).setWidth 32) = _
  rw [e, bit_val]

/-- The kernel's one-hot row is the mark of the row's first greatest element. -/
theorem firsts_apply (x : FVec I S20000x128 .f32) (r : Fin 20000) (c : Fin 128) :
    firsts x (ix2 r c) = mark (fun k => x (ix2 r k)) c := by
  classical
  have e : (matmul dot_S20000x128_S128x128_S20000x128_1_0_0_1_n_n none (hits x) upper (constant S20000x128 .f32 0x00000000#32) : FVec I S20000x128 .f32) (ix2 r c)
      = ∑ k : Fin 128, hits x (ix2 r k) * upper (ix2 k c) := by
    refine (Ideal.matmul_plain_apply none (hits x) upper (constant S20000x128 .f32 0x00000000#32) r c).trans ?_
    show Ideal.ofBits .f32 0x00000000#32 + _ = _
    rw [Ideal.ofBits_zero_f32, zero_add]
  have e0 : (Scalar.ofBits .bf16 0x0000#16 : I .bf16) = (0 : EReal) := by
    show Ideal.ofBits .bf16 0x0000#16 = 0
    simp [Ideal.ofBits, Ideal.ieee]
  show Scalar.select (BitVec.ofBool (decide ((matmul dot_S20000x128_S128x128_S20000x128_1_0_0_1_n_n none (hits x) upper (constant S20000x128 .f32 0x00000000#32) : FVec I S20000x128 .f32) (ix2 r c)
      = Ideal.ofBits .f32 0x3F800000#32))) (hits x (ix2 r c)) (Scalar.ofBits .bf16 0x0000#16 : I .bf16) = _
  rw [e, e0, Ideal.ofBits_one_f32, ← mark_eq]
  simp only [hits_apply, upper_apply]
  rw [select_decide]

/-- A product that contracts the rows of one array against the rows of another, read at an entry. -/
theorem rows_matmul_apply {A : ℕ} (w : DotDims.WF ⟨2, ![A, 128]⟩ ⟨2, ![A, 128]⟩ ⟨2, ![128, 128]⟩ [0] [0] [1] [1] [] [])
    (a b : FVec I ⟨2, ![A, 128]⟩ .bf16) (acc : FVec I ⟨2, ![128, 128]⟩ .f32) (i j : Fin 128) :
    (FloatOps.matmul (F := I) ⟨[0], [0], [1], [1], [], [], w⟩ none a b acc : FVec I ⟨2, ![128, 128]⟩ .f32) (ix2 i j)
      = acc (ix2 i j) + ∑ r : Fin A, a (ix2 r i) * b (ix2 r j) := by
  rw [Ideal.matmul_apply, ← Equiv.sum_comp (contrEquiv1 (⟨[0], [0], [1], [1], [], [], w⟩ : DotDims ⟨2, ![A, 128]⟩ ⟨2, ![A, 128]⟩ ⟨2, ![128, 128]⟩) A rfl rfl).symm]
  refine congrArg (acc (ix2 i j) + ·) (Finset.sum_congr rfl fun r _ => ?_)
  have hk := contrEquiv1_symm_val (⟨[0], [0], [1], [1], [], [], w⟩ : DotDims ⟨2, ![A, 128]⟩ ⟨2, ![A, 128]⟩ ⟨2, ![128, 128]⟩) A rfl rfl r
  refine congrArg₂ (fun s t => a s * b t) ?_ ?_
  · funext c; apply Fin.ext
    match c with
    | ⟨0, _⟩ => exact hk
    | ⟨1, _⟩ => rfl
  · funext c; apply Fin.ext
    match c with
    | ⟨0, _⟩ => exact hk
    | ⟨1, _⟩ => rfl

/-- **One block.** The table after a block: the table before it, plus the block's count of each pair of positions. -/
theorem k0_pay4_apply (x y : Vec I S20000x128 .f32) (acc : Vec I S128x128 .f32) (i j : Fin 128) :
    k0_pay4 x y acc (ix2 i j)
      = acc (ix2 i j) + ∑ r : Fin 20000, mark (fun k => x (ix2 r k)) i * mark (fun k => y (ix2 r k)) j := by
  have e : k0_pay4 x y acc = addf acc (matmul dot_S20000x128_S20000x128_S128x128_0_0_1_1_n_n none (firsts x) (firsts y)
      (constant S128x128 .f32 0x00000000#32)) := rfl
  rw [e, ValueIdx.addf_apply]
  refine congrArg (acc (ix2 i j) + ·) ((rows_matmul_apply dot_S20000x128_S20000x128_S128x128_0_0_1_1_n_n_wf (firsts x) (firsts y) _ i j).trans ?_)
  rw [show (constant S128x128 .f32 0x00000000#32 : FVec I S128x128 .f32) (ix2 i j) = (0 : EReal) from Ideal.ofBits_zero_f32, zero_add]
  simp only [firsts_apply]

end Cert.Recall
end
-- ==== Proof.Average.lean ====
/-
  The kernel's closing average: from the accumulated counts and the given table to the one number it writes.
-/
module

public import proofs.«01_k».proof.Proof.Block

@[expose] public section

noncomputable section

namespace Cert.Recall

open Idealize.ShloMosaic Idealize.ShloMosaic.ValueIdx Idealize.ShloMosaic.WordCmp Cert.KernelIdeal Cert.KernelIdeal.Gen
open scoped BigOperators

local notation "I" => Idealize.ShloMosaic.Ideal

/-- The sum of the entries of each row of a 128 x 128 array. -/
theorem rowSum_apply (x : FVec I S128x128 .f32) (r : Fin 128) :
    (multiReduction .add [1] S128 x 0x00000000#32 reduces_S128x128_S128 (.inl rfl) rfl : FVec I S128 .f32) (ix1 r)
      = ∑ k : Fin 128, x (ix2 r k) :=
  (Ideal.multiReduction_add_single x _ _ _ _ (ix1 r)).trans
    (Finset.sum_congr rfl fun k _ => congrArg x (lift_row (A := 128) (B := 128) _ r k))

/-- The sum of a vector of 128 numbers, taken as the kernel takes it: laid as one row, summed, and read out. -/
theorem total_apply (v : FVec I S128 .f32) :
    extractAt ![0, 0] (shapeCast S1x1 (multiReduction .add [1] S1 (shapeCast S1x128 v shapeCasts_S128_S1x128) 0x00000000#32
      reduces_S1x128_S1 (.inl rfl) rfl : FVec I S1 .f32) shapeCasts_S1_S1x1) inpos_S1x1_p0_0 = ∑ k : Fin 128, v (ix1 k) := by
  unfold extractAt
  refine (shapeCast_apply _ shapeCasts_S1_S1x1 _ (ix1 (0 : Fin 1)) ?_).trans ?_
  · rw [Shape.rowMajor_val_one, Shape.rowMajor_val_two]
    rfl
  refine (Ideal.multiReduction_add_single (shapeCast S1x128 v shapeCasts_S128_S1x128) _ _ _ _ (ix1 (0 : Fin 1))).trans ?_
  refine Finset.sum_congr rfl fun k _ => ?_
  refine (congrArg (shapeCast S1x128 v shapeCasts_S128_S1x128) (lift_row (A := 1) (B := 128) _ 0 k)).trans ?_
  refine shapeCast_apply _ shapeCasts_S128_S1x128 _ (ix1 k) ?_
  rw [Shape.rowMajor_val_one, Shape.rowMajor_val_two]
  show k.val = 0 * 128 + k.val
  omega

/-- The diagonal of a 128 x 128 array, the other entries zero. -/
def diagonal (x : FVec I S128x128 .f32) : FVec I S128x128 .f32 :=
  select (cmpi .eq (iota .tc S128x128 32 [0] iota_S128x128_d0_w32) (iota .tc S128x128 32 [1] iota_S128x128_d1_w32)) x
    (broadcast S128x128 (Scalar.ofBits .f32 0x00000000#32))

theorem diagonal_apply (x : FVec I S128x128 .f32) (r k : Fin 128) :
    diagonal x (ix2 r k) = if r = k then x (ix2 r k) else 0 := by
  have e : IntOp.cmpi .eq (BitVec.ofNat 32 (0 * 128 + r.val)) (BitVec.ofNat 32 (0 * 128 + k.val)) = BitVec.ofBool (decide (r = k)) := by
    have := r.isLt
    have := k.isLt
    rw [cmpi_eq_ofNat (by omega) (by omega)]
    congr 1
    exact decide_eq_decide.2 (by rw [Fin.ext_iff]; omega)
  show Scalar.select (IntOp.cmpi .eq (BitVec.ofNat 32 (0 * 128 + r.val)) (BitVec.ofNat 32 (0 * 128 + k.val))) (x (ix2 r k)) (Ideal.ofBits .f32 0x00000000#32) = _
  rw [e, select_decide, Ideal.ofBits_zero_f32]

/-- **The closing average** of the accumulated counts `acc` and the given table `cm`. -/
theorem k0_pay2_eq (acc cm : Vec I S128x128 .f32) :
    (k0_pay2 acc cm : EReal) = recallSum (fun r c => acc (ix2 r c) + cm (ix2 r c)) * oneOver128 := by
  have e : k0_pay2 acc cm = Scalar.mulf (extractAt ![0, 0] (shapeCast S1x1 (multiReduction .add [1] S1 (shapeCast S1x128
      (divf (multiReduction .add [1] S128 (diagonal (addf acc cm)) 0x00000000#32 reduces_S128x128_S128 (.inl rfl) rfl)
        (addf (multiReduction .add [1] S128 (addf acc cm : FVec I S128x128 .f32) 0x00000000#32 reduces_S128x128_S128 (.inl rfl) rfl)
          (broadcast S128 (Scalar.ofBits .f32 0x34000000#32))) : FVec I S128 .f32) shapeCasts_S128_S1x128) 0x00000000#32
      reduces_S1x128_S1 (.inl rfl) rfl : FVec I S1 .f32) shapeCasts_S1_S1x1) inpos_S1x1_p0_0) (Scalar.ofBits .f32 0x3C000000#32) := rfl
  rw [e, total_apply]
  refine congrArg (· * oneOver128) (Finset.sum_congr rfl fun r _ => ?_)
  rw [ValueIdx.divf_apply, rowSum_apply, ValueIdx.addf_apply, rowSum_apply]
  simp only [diagonal_apply, Finset.sum_ite_eq, Finset.mem_univ, if_true]
  rfl

end Cert.Recall
end
-- ==== Proof.Scratch.lean ====
/-
  The kernel's table of counts, held between the grid's points: what it is after each point.
-/
module

public import proofs.«01_k».proof.Proof.Average
public import proofs.«01_k».proof.Proof.Gen.KernelIdeal.Frame
public import Idealize.ShloMosaic.Lib.Pipeline.ValueKit

@[expose] public section

noncomputable section

namespace Cert.Recall

open Idealize.ShloMosaic hiding ix0 ix1 ix2
open Idealize.ShloMosaic.ValueIdx Idealize.ShloMosaic.TcCoe Idealize.SL.Sem Cert.KernelIdeal Cert.KernelIdeal.Gen
open scoped BigOperators

local notation "I" => Idealize.ShloMosaic.Ideal

variable (m : (ℓ : Loc nD τ sig) → Buf (Elt I) ℓ) (c : Dev nD)

/-- Storing the table reshapes it to its own shape. -/
theorem k0_pay1_eq (v : FVec I S128x128 .f32) : k0_pay1 v = v := shapeCast_self v _

/-- The first array of the launch, the second, and the given table. -/
abbrev arg0 : FVec I S500000x128 .f32 := m (c.tc.loc main_arg0)
abbrev arg1 : FVec I S500000x128 .f32 := m (c.tc.loc main_arg1)
abbrev arg2 : FVec I S128x128 .f32 := m (c.tc.loc main_arg2)

/-- The blocks of the three arrays at point `t`. -/
abbrev blk0 (t : Fin cfg0.N) : FVec I S20000x128 .f32 := iblk m c 0 t
abbrev blk1 (t : Fin cfg0.N) : FVec I S20000x128 .f32 := iblk m c 1 t
abbrev blk2 (t : Fin cfg0.N) : FVec I S128x128 .f32 := iblk m c 2 t

/-- The table after point `n`. -/
abbrev table (n : ℕ) (hn : n < cfg0.N) : FVec I S128x128 .f32 := (outsAt0 m c n hn).2

/-- At the first point the table is that point's count alone, over zeros. -/
theorem table_first (t : Fin cfg0.N) (h0 : t.val % 25 = 0) (h1 : ¬t.val % 25 = 24) :
    table m c t.val t.isLt = k0_pay4 (blk0 m c t) (blk1 m c t) (k0_pay3 : FVec I S128x128 .f32) := by
  unfold table
  rw [outsAt0_A m c t h0 h1]
  frame_out
  exact k0_pay1_eq _

/-- At a later point, short of the last, it is the table before the point with that point's count added. -/
theorem table_next (t : Fin cfg0.N) (h0 : ¬t.val % 25 = 0) (h1 : ¬t.val % 25 = 24) (hp : t.val - 1 < cfg0.N) :
    table m c t.val t.isLt = k0_pay4 (blk0 m c t) (blk1 m c t) (table m c (t.val - 1) hp) := by
  unfold table
  rw [outsAt0_B m c t h0 h1]
  frame_out
  rw [(Memref.isWhole_whole cc0_scratch0).read_unread]
  exact k0_pay1_eq _

/-- The last point adds its count and writes the closing average. -/
theorem out_last (t : Fin cfg0.N) (h0 : ¬t.val % 25 = 0) (h1 : t.val % 25 = 24) (hp : t.val - 1 < cfg0.N) :
    ((outsAt0 m c t.val t.isLt).1 : FVec I S1 .f32)
      = fun _ => k0_pay2 (F := I) (k0_pay4 (F := I) (blk0 m c t) (blk1 m c t) (table m c (t.val - 1) hp)) (blk2 m c t) := by
  unfold table
  rw [outsAt0_C m c t h0 h1]
  frame_out
  rw [(Memref.isWhole_whole cc0_scratch0).read_unread, k0_pay1_eq]
  rfl

/-- Which block each point reads: point `t` reads block `t` of the two arrays and the whole of the table. -/
theorem idx : ∀ t : Fin cfg0.N, win0_0.index t = ![t.val, 0] ∧ win0_1.index t = ![t.val, 0] ∧ win0_2.index t = ![0, 0] :=
  (by decide +kernel : ∀ t : Fin grid0.N, _)

theorem blk0_apply (t : Fin cfg0.N) (r : Fin 20000) (k : Fin 128) (h : 20000 * t.val + r.val < 500000) :
    blk0 m c t (ix2 r k) = arg0 m c (ix2 ⟨20000 * t.val + r.val, h⟩ k) := by
  have := (idx t).1
  unfold blk0
  blk_simp [iblk, this]
  refine congrArg (arg0 m c) ?_
  blk_ext! [this]
  show t.val * 20000 + r.val = 20000 * t.val + r.val
  omega

theorem blk1_apply (t : Fin cfg0.N) (r : Fin 20000) (k : Fin 128) (h : 20000 * t.val + r.val < 500000) :
    blk1 m c t (ix2 r k) = arg1 m c (ix2 ⟨20000 * t.val + r.val, h⟩ k) := by
  have := (idx t).2.1
  unfold blk1
  blk_simp [iblk, this]
  refine congrArg (arg1 m c) ?_
  blk_ext! [this]
  show t.val * 20000 + r.val = 20000 * t.val + r.val
  omega

theorem blk2_eq (t : Fin cfg0.N) : blk2 m c t = arg2 m c := by
  have := (idx t).2.2
  funext i
  unfold blk2
  blk_simp [iblk, this]
  refine congrArg (arg2 m c) ?_
  blk_ext! [this]

/-- Row `n`'s contribution to the count of the pair `(i, j)`; zero past the last row. -/
def rowCount (x y : FVec I S500000x128 .f32) (i j : Fin 128) (n : ℕ) : EReal :=
  if h : n < 500000 then mark (row x ⟨n, h⟩) i * mark (row y ⟨n, h⟩) j else 0

/-- The counts of one block are the contributions of its rows. -/
theorem block_count (t : Fin cfg0.N) (i j : Fin 128) :
    ∑ r : Fin 20000, mark (fun k => blk0 m c t (ix2 r k)) i * mark (fun k => blk1 m c t (ix2 r k)) j
      = ∑ r ∈ Finset.range 20000, rowCount (arg0 m c) (arg1 m c) i j (20000 * t.val + r) := by
  rw [Finset.sum_range]
  refine Finset.sum_congr rfl fun r _ => ?_
  have hN : t.val < 25 := lt_of_lt_of_eq t.isLt (show cfg0.N = 25 from N_0)
  have h : 20000 * t.val + r.val < 500000 := by
    have := r.isLt
    omega
  rw [rowCount, dif_pos h]
  simp only [blk0_apply m c t r _ h, blk1_apply m c t r _ h]

/-- A sum over the first `n + 1` blocks: the first `n`, and the last. -/
theorem sum_blocks_succ (g : ℕ → EReal) (n : ℕ) :
    ∑ k ∈ Finset.range (20000 * (n + 1)), g k = (∑ k ∈ Finset.range (20000 * n), g k) + ∑ r ∈ Finset.range 20000, g (20000 * n + r) := by
  rw [Nat.mul_succ, Finset.sum_range_add]

/-- The table before any point is zero. -/
theorem k0_pay3_apply (i : S128x128.Idx) : (k0_pay3 : FVec I S128x128 .f32) i = (0 : EReal) := by
  have e : (k0_pay3 : FVec I S128x128 .f32) = broadcast S128x128 (Scalar.ofBits .f32 0x00000000#32) := shapeCast_self _ _
  rw [e]
  exact Ideal.ofBits_zero_f32

/-- After point `n`, short of the last, the table counts the rows of the blocks up to block `n`. -/
theorem table_apply (n : ℕ) (hn : n < cfg0.N) (h : n < 24) (i j : Fin 128) :
    table m c n hn (ix2 i j) = ∑ k ∈ Finset.range (20000 * (n + 1)), rowCount (arg0 m c) (arg1 m c) i j k := by
  induction n with
  | zero =>
    rw [table_first m c ⟨0, hn⟩ rfl (by norm_num), k0_pay4_apply, k0_pay3_apply, block_count, sum_blocks_succ]
    simp only [Nat.mul_zero, Finset.sum_range_zero]
  | succ n ih =>
    have hn' : n < cfg0.N := Nat.lt_of_succ_lt hn
    rw [table_next m c ⟨n + 1, hn⟩ (show ¬ (n + 1) % 25 = 0 by omega) (show ¬ (n + 1) % 25 = 24 by omega) hn', k0_pay4_apply, block_count,
      sum_blocks_succ _ (n + 1)]
    exact congrArg (· + _) (ih hn' (by omega))

/-- The contributions of all the rows are the count. -/
theorem sum_rowCount (x y : FVec I S500000x128 .f32) (i j : Fin 128) :
    ∑ k ∈ Finset.range 500000, rowCount x y i j k = count x y i j := by
  rw [Finset.sum_range]
  exact Finset.sum_congr rfl fun n _ => dif_pos n.isLt

/-- The number that the kernel's run writes. -/
def kernelValue : EReal :=
  recallSum (fun i j => count (arg0 m c) (arg1 m c) i j + arg2 m c (ix2 i j)) * oneOver128

/-- What the last point writes. -/
theorem out_value (t : Fin cfg0.N) (h : t.val = 24) :
    ((outsAt0 m c t.val t.isLt).1 : FVec I S1 .f32) = fun _ => kernelValue m c := by
  have hp : t.val - 1 < cfg0.N := Nat.lt_of_le_of_lt (Nat.sub_le _ _) t.isLt
  rw [out_last m c t (by omega) (by omega) hp]
  funext _
  rw [k0_pay2_eq, blk2_eq]
  refine congrArg (fun f => recallSum f * oneOver128) (funext fun i => funext fun j => congrArg (· + arg2 m c (ix2 i j)) ?_)
  rw [k0_pay4_apply, block_count, table_apply m c (t.val - 1) hp (by omega), ← sum_rowCount]
  have e : t.val - 1 + 1 = t.val := by omega
  rw [e, ← sum_blocks_succ, h]

/-- There are 25 points, so point 24 is one. -/
theorem last_lt : 24 < cfg0.N := lt_of_lt_of_eq (by norm_num) (show 25 = cfg0.N from N_0.symm)

/-- **The launch's result array** after the run. -/
theorem array_eq : ((dats m 0 c).arrAt 3 cfg0.N : FVec I S1 .f32) = fun _ => kernelValue m c := by
  refine (dats m 0 c).arrAt_eq_of_after_last 3 ⟨24, last_lt⟩ (by decide +kernel) _ fun j => ?_
  exact congrFun ((after0_3 m c ⟨24, last_lt⟩).trans (out_value m c ⟨24, last_lt⟩ rfl)) _

/-- **The kernel's result** after the run. -/
theorem result_eq : (Pipeline.afterTail₀ cfgs (dats m) 0 (V0 m) [hostOps1] c main_v0 : FVec I S_ .f32) = fun _ => kernelValue m c := by
  unfold Pipeline.afterTail₀
  simp only [List.flatten_cons, List.flatten_nil, List.append_nil]
  after_results
  have e : (Pipeline.withArrays (cfgs 0).spec c (V0 m c) (fun w => (dats m 0 c).arrAt w (cfgs 0).N) (Proc.tc.devRef main_call0_v0)
      : FVec I S1 .f32) = fun _ => kernelValue m c :=
    (Pipeline.withArrays_arr (cfgs 0).spec (by decide) c (V0 m c) (fun w => (dats m 0 c).arrAt w (cfgs 0).N) 3).trans (array_eq m c)
  generalize kernelValue m c = v at e ⊢
  generalize Pipeline.withArrays (cfgs 0).spec c (V0 m c) (fun w => (dats m 0 c).arrAt w (cfgs 0).N) = W at e ⊢
  funext i
  show shapeCast S_ (W (Proc.tc.devRef main_call0_v0) : FVec I S1 .f32) shapeCasts_S1_S_ i = v
  rw [e]
  rfl

end Cert.Recall
end
-- ==== Proof.ArgMax.lean ====
/-
  What the reference's arg-max finds in a row: the position of the row's first greatest element, as a 32-bit word.

  The reference folds the pairs (element, position) of a row, in some order, with a reducer that keeps the greater
  element and, between equal elements, the smaller position, from the pair (-∞, 0). `fold_spec` says what any such
  fold ends with; `argReduce_row` reads it at a row.
-/
module

public import proofs.«01_k».proof.Proof.Row
public import proofs.«01_k».proof.Proof.Gen.ReferenceIdeal
public import Idealize.ShloMosaic.PureOps.Ideal.Laws
public import Idealize.ShloMosaic.PureOps.Reduce
public import Idealize.ShloMosaic.Lib.WordCmp
public import Idealize.ShloMosaic.Lib.ValueIdx
public import Idealize.ShloMosaic.Lib.IdealHost

@[expose] public section

noncomputable section

namespace Cert.Recall

open Idealize.ShloMosaic Idealize.ShloMosaic.ValueIdx Idealize.ShloMosaic.WordCmp Cert.ReferenceIdeal

/-- A pair (element, position word) of the reference's arg-max. -/
abbrev Entry : Type := Ideal .f32 × BitVec 32

/-- `a` is at least as good as `b`: a greater element, or an equal one at a position that is not later. -/
def Beats (a b : Entry) : Prop := b.1 < a.1 ∨ (a.1 = b.1 ∧ a.2.toInt ≤ b.2.toInt)

theorem Beats.refl (a : Entry) : Beats a a := Or.inr ⟨rfl, le_rfl⟩

theorem Beats.trans {a b c : Entry} (h : Beats a b) (h' : Beats b c) : Beats a c := by
  rcases h with h | ⟨h, k⟩ <;> rcases h' with h' | ⟨h', k'⟩
  · exact Or.inl (lt_trans h' h)
  · exact Or.inl (h' ▸ h)
  · exact Or.inl (h ▸ h')
  · exact Or.inr ⟨h.trans h', k.trans k'⟩

open Classical in
/-- The reducer keeps its first pair exactly when that one is strictly better, else the second. -/
theorem reducer_eq (a b : Entry) :
    reducer_argmax_f32_i32 (F := Ideal) a b
      = if b.1 < a.1 ∨ (a.1 = b.1 ∧ a.2.toInt < b.2.toInt) then a else b := by
  obtain ⟨x, i⟩ := a
  obtain ⟨y, j⟩ := b
  unfold reducer_argmax_f32_i32
  simp only [Ideal.cmpf_def, Ideal.cmp, cmpi_slt_eq, ori_ofBool, andi_ofBool, Scalar.select, ofBool_eq_one_iff', ne_eq,
    not_true_eq_false, decide_false, Bool.or_false, Bool.or_eq_true, Bool.and_eq_true, decide_eq_true_eq]
  by_cases h : y < x
  · simp [h]
  · by_cases h' : x = y
    · subst h'; by_cases k : i.toInt < j.toInt <;> simp [k]
    · simp [h, h']

/-- One of the two pairs, and at least as good as both. -/
theorem reducer_spec (a b : Entry) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  rw [reducer_eq]
  split
  · next h =>
    refine ⟨Or.inl rfl, Beats.refl a, ?_⟩
    exact h.imp id fun h => ⟨h.1, h.2.le⟩
  · next h =>
    refine ⟨Or.inr rfl, ?_, Beats.refl b⟩
    rw [not_or, not_and] at h
    rcases (not_lt.1 h.1).lt_or_eq with hlt | heq
    · exact Or.inl hlt
    · exact Or.inr ⟨heq.symm, not_lt.1 (h.2 heq)⟩

/-- The fold of the reducer over any list: it ends with the initial pair or one of the list, which is at least as good
    as the initial pair and as all of the list. -/
theorem fold_spec (L : List Entry) : ∀ e : Entry,
    (L.foldl (reducer_argmax_f32_i32 (F := Ideal)) e = e ∨ L.foldl (reducer_argmax_f32_i32 (F := Ideal)) e ∈ L)
      ∧ Beats (L.foldl (reducer_argmax_f32_i32 (F := Ideal)) e) e
      ∧ ∀ p ∈ L, Beats (L.foldl (reducer_argmax_f32_i32 (F := Ideal)) e) p := by
  induction L with
  | nil => exact fun e => ⟨Or.inl rfl, Beats.refl e, fun p hp => absurd hp List.not_mem_nil⟩
  | cons q L ih =>
    intro e
    obtain ⟨h1, h2, h3⟩ := ih (reducer_argmax_f32_i32 (F := Ideal) e q)
    obtain ⟨k1, k2, k3⟩ := reducer_spec e q
    rw [List.foldl_cons]
    refine ⟨?_, h2.trans k2, fun p hp => ?_⟩
    · rcases h1 with h1 | h1
      · rw [h1]
        exact k1.imp id fun k => by rw [k]; exact List.mem_cons_self
      · exact Or.inr (List.mem_cons_of_mem _ h1)
    · rcases List.mem_cons.1 hp with rfl | hp
      · exact h2.trans k3
      · exact h3 p hp

/-- A fold from (-∞, 0) over a list that holds exactly the pairs (element, position) of a row of 128 ends with the
    position of the row's first greatest element. -/
theorem fold_row (f : Fin 128 → EReal) (L : List Entry)
    (hL : ∀ p : Entry, p ∈ L ↔ ∃ k : Fin 128, p = (f k, BitVec.ofNat 32 k.val)) :
    ∃ i : Fin 128, IsFirst f i
      ∧ (L.foldl (reducer_argmax_f32_i32 (F := Ideal)) ((⊥ : EReal), 0#32)).2 = BitVec.ofNat 32 i.val := by
  obtain ⟨h1, -, h3⟩ := fold_spec L ((⊥ : EReal), 0#32)
  generalize L.foldl (reducer_argmax_f32_i32 (F := Ideal)) ((⊥ : EReal), 0#32) = e at h1 h3 ⊢
  have toInt (k : Fin 128) : (BitVec.ofNat 32 k.val).toInt = (k.val : Int) :=
    toInt_ofNat_of_lt (by have := k.isLt; norm_num; omega)
  have row (k : Fin 128) : f k < e.1 ∨ (e.1 = f k ∧ e.2.toInt ≤ (k.val : Int)) := by
    have := h3 (f k, BitVec.ofNat 32 k.val) ((hL _).2 ⟨k, rfl⟩)
    rwa [Beats, toInt k] at this
  rcases h1 with rfl | h1
  · refine ⟨0, ⟨fun j => ?_, fun j hj => absurd hj (not_lt.2 (Fin.zero_le j))⟩, rfl⟩
    rcases row j with h | ⟨h, -⟩
    · exact absurd h not_lt_bot
    · exact h ▸ bot_le
  · obtain ⟨i, rfl⟩ := (hL _).1 h1
    refine ⟨i, ⟨fun j => ?_, fun j hj => ?_⟩, rfl⟩
    · rcases row j with h | ⟨h, -⟩
      · exact le_of_lt h
      · exact le_of_eq h.symm
    · rcases row j with h | ⟨-, h⟩
      · exact h
      · rw [toInt i] at h
        exact absurd (show j.val < i.val from hj) (by omega)

/-- The pattern of the fold's initial element is -∞. -/
theorem ofBits_neg_inf : Ideal.ofBits .f32 0xFF800000#32 = (⊥ : EReal) := by
  simp [Ideal.ofBits, Ideal.ieee]

/-- The pairs that a two-operand reduction folds at `j` are those at the indices that reduce to `j`. -/
theorem mem_fiber_iff {s t : Shape} {axes : List (Fin s.rank)} {α β : Type} (x : s.Idx → α) (y : s.Idx → β)
    (h : s.ReducesTo axes t) (j : t.Idx) (p : α × β) :
    p ∈ Host.argReduceFiber x y h j ↔ ∃ i, h.drop i = j ∧ p = (x i, y i) := by
  rw [Host.argReduceFiber, List.mem_map]
  constructor
  · rintro ⟨k, hk, rfl⟩
    exact ⟨s.rowMajor.symm k, of_decide_eq_true (List.mem_filter.1 hk).2, rfl⟩
  · rintro ⟨i, hi, rfl⟩
    refine ⟨s.rowMajor i, List.mem_filter.2 ⟨List.mem_finRange _, decide_eq_true ?_⟩, ?_⟩
    · rw [Equiv.symm_apply_apply]; exact hi
    · rw [Equiv.symm_apply_apply]

/-- The indices of a matrix that reduce to `n` along its second axis are those of row `n`. -/
theorem drop_eq_iff {A B : ℕ} (h : (⟨2, ![A, B]⟩ : Shape).ReducesTo [1] ⟨1, ![A]⟩) (i : (⟨2, ![A, B]⟩ : Shape).Idx) (n : Fin A) :
    h.drop i = ix1 n ↔ i 0 = n := by
  have hv : (h.drop i 0).val = (i 0).val := h.drop_apply_val i 0
  constructor
  · intro e; rw [e] at hv; exact Fin.ext hv.symm
  · intro e
    rw [eq_ix1 (h.drop i)]
    exact congrArg ix1 (Fin.ext (hv.trans (congrArg Fin.val e)))

/-- At the extended reals an arg-max is the plain fold over the pairs that reduce to the index. -/
theorem argReduce_apply {s t u : Shape} {axes : List (Fin s.rank)} (f : Entry → Entry → Entry) (x : FVec Ideal s .f32)
    (y : IVec s 32) (ix : FVec Ideal u .f32) (iy : IVec u 32) (h : s.ReducesTo axes t) (hu : 0 < u.numel) (j : t.Idx) :
    Host.argReduce f x y ix iy h hu j
      = (Host.argReduceFiber x y h j).foldl f (ix (Shape.Idx.first hu), iy (Shape.Idx.first hu)) := by
  rw [Ideal.argReduce_eq_reduce2, Host.reduce2_eq_foldl_fiber]

/-- The arg-max of row `n` of a matrix with 128 columns, folding (element, column) from (-∞, 0), is the position of the
    row's first greatest element. -/
theorem argReduce_row {A : ℕ} {u : Shape} (x : FVec Ideal ⟨2, ![A, 128]⟩ .f32) (y : IVec ⟨2, ![A, 128]⟩ 32)
    (ix : FVec Ideal u .f32) (iy : IVec u 32) (h : (⟨2, ![A, 128]⟩ : Shape).ReducesTo [1] ⟨1, ![A]⟩) (hu : 0 < u.numel)
    (n : Fin A) (hy : ∀ i, y i = BitVec.ofNat 32 (i 1).val) (hix : ∀ i, ix i = (⊥ : EReal)) (hiy : ∀ i, iy i = 0#32) :
    ∃ i : Fin 128, IsFirst (fun k => x (ix2 n k)) i
      ∧ (Host.argReduce reducer_argmax_f32_i32 x y ix iy h hu (ix1 n)).2 = BitVec.ofNat 32 i.val := by
  rw [argReduce_apply, hix, hiy]
  refine fold_row _ _ fun p => ?_
  rw [mem_fiber_iff]
  constructor
  · rintro ⟨i, hi, rfl⟩
    have hi0 := (drop_eq_iff _ i n).1 hi
    refine ⟨i 1, Prod.ext (congrArg x ?_) (hy i)⟩
    rw [← hi0]
    exact eq_ix2 i
  · rintro ⟨k, rfl⟩
    exact ⟨ix2 n k, (drop_eq_iff _ _ n).2 rfl, Prod.ext rfl (hy (ix2 n k)).symm⟩

end Cert.Recall
end
-- ==== Proof.Pairs.lean ====
/-
  The reference's indexed accesses: a list of index pairs, a sum scattered to those pairs, and the entries gathered at
  them. The number of pairs is any number `A`.
-/
module

public import proofs.«01_k».proof.Proof.Table
public import Idealize.ShloMosaic.Lib.WordCmp
public import Idealize.ShloMosaic.Lib.IdealHost
public import Idealize.ShloMosaic.Lib.Pipeline.Value
public import Idealize.ShloMosaic.Lib.ValueIdxRank1
public import Idealize.ShloMosaic.Lib.Routing.OpsPair

@[expose] public section

noncomputable section

namespace Cert.Recall

open Idealize.ShloMosaic
open Idealize.ShloMosaic.ValueIdx Idealize.ShloMosaic.WordCmp
open scoped BigOperators

local notation "I" => Idealize.ShloMosaic.Ideal

/-- An index below 128 is not negative, so the reference leaves it as it is. -/
theorem wrap_eq {S : Shape} (T z k : IVec S 32) (i : S.Idx) (a : Fin 128) (hz : z i = 0#32) (hT : T i = BitVec.ofNat 32 a.val) :
    select (cmpi .slt T z) (addi T k) T i = BitVec.ofNat 32 a.val := by
  show Scalar.select (IntOp.cmpi .slt (T i) (z i)) _ (T i) = _
  have := a.isLt
  rw [hz, hT, cmpi_slt_eq, toInt_ofNat_of_lt (by omega), select_decide, if_neg]
  show ¬ (a.val : ℤ) < (0#32 : BitVec 32).toInt
  rw [show (0#32 : BitVec 32).toInt = 0 from rfl]
  omega

/-- A vector stood up as a column reads back the vector. -/
theorem stand_apply {A : ℕ} {α : Type} (hA : A ≠ 1) (h : (⟨1, ![A]⟩ : Shape).BroadcastsInDim ⟨2, ![A, 1]⟩ ![0]) (v : (⟨1, ![A]⟩ : Shape).Idx → α)
    (n : Fin A) : broadcastInDim ⟨2, ![A, 1]⟩ ![0] h v (ix2 n (0 : Fin 1)) = v (ix1 n) := by
  refine broadcastInDim_apply _ h v _ _ fun a => ?_
  match a with
  | ⟨0, _⟩ => show n.val = if A = 1 then 0 else n.val; rw [if_neg hA]

/-- Two columns laid side by side: the first component of pair `n` is the first column's. -/
theorem pair_fst {A : ℕ} {α : Type} (u v : (⟨2, ![A, 1]⟩ : Shape).Idx → α)
    (h : Shape.Concatenates [⟨2, ![A, 1]⟩, ⟨2, ![A, 1]⟩] ⟨2, ![A, 2]⟩ 1) (n : Fin A) :
    concatenate ⟨2, ![A, 2]⟩ 1 [⟨⟨2, ![A, 1]⟩, u⟩, ⟨⟨2, ![A, 1]⟩, v⟩] h (ix2 n (0 : Fin 2)) = u (ix2 n (0 : Fin 1)) :=
  concatenate_pair_apply_left (1 : Fin 2) u v h (ix2 n (0 : Fin 2)) rfl (ix2 n (0 : Fin 1)) fun b =>
    match b with
    | ⟨0, _⟩ => rfl
    | ⟨1, _⟩ => rfl

/-- … and its second component the second column's. -/
theorem pair_snd {A : ℕ} {α : Type} (u v : (⟨2, ![A, 1]⟩ : Shape).Idx → α)
    (h : Shape.Concatenates [⟨2, ![A, 1]⟩, ⟨2, ![A, 1]⟩] ⟨2, ![A, 2]⟩ 1) (n : Fin A) :
    concatenate ⟨2, ![A, 2]⟩ 1 [⟨⟨2, ![A, 1]⟩, u⟩, ⟨⟨2, ![A, 1]⟩, v⟩] h (ix2 n (1 : Fin 2)) = v (ix2 n (0 : Fin 1)) :=
  concatenate_pair_apply_right (1 : Fin 2) u v h (ix2 n (1 : Fin 2)) rfl rfl (ix2 n (0 : Fin 1)) (fun b hb =>
    match b, hb with
    | ⟨0, _⟩, _ => rfl
    | ⟨1, _⟩, hb => absurd rfl hb) rfl

section Scatter

variable {A : ℕ} (w : ScatterDims.WF ⟨2, ![128, 128]⟩ ⟨2, ![A, 2]⟩ ⟨1, ![A]⟩ [] [0, 1] [0, 1] 1)

/-- The dimension numbers of a scatter of `A` numbers to `A` pairs of a 128 x 128 array. -/
abbrev toPairs : ScatterDims ⟨2, ![128, 128]⟩ ⟨2, ![A, 2]⟩ ⟨1, ![A]⟩ := ⟨[], [0, 1], [0, 1], 1, w⟩

/-- Number `n` lands at `(r, c)` exactly when the two words of its pair are `r` and `c`. -/
theorem lands_iff (idx : IVec ⟨2, ![A, 2]⟩ 32) (n : Fin A) (r c : Fin 128) :
    (toPairs w).resultIdx? (ix1 n) idx = some (ix2 r c) ↔ (idx (ix2 n (0 : Fin 2))).toInt = r.val ∧ (idx (ix2 n (1 : Fin 2))).toInt = c.val := by
  have hs0 : (toPairs w).start (ix1 n) idx 0 = (idx (ix2 n (0 : Fin 2))).toInt := by
    refine congrArg (fun i => (idx i).toInt) (funext fun b => Fin.ext ?_)
    match b with
    | ⟨0, _⟩ => rfl
    | ⟨1, _⟩ => rfl
  have hs1 : (toPairs w).start (ix1 n) idx 1 = (idx (ix2 n (1 : Fin 2))).toInt := by
    refine congrArg (fun i => (idx i).toInt) (funext fun b => Fin.ext ?_)
    match b with
    | ⟨0, _⟩ => rfl
    | ⟨1, _⟩ => rfl
  have hw : ∀ a : Fin 2, (toPairs w).window (ix1 n) a = 0 := fun a =>
    match a with
    | ⟨0, _⟩ => rfl
    | ⟨1, _⟩ => rfl
  rw [Routing.resultIdx?_eq_some]
  constructor
  · intro h
    have h0 := h 0
    have h1 := h 1
    rw [hs0, hw 0] at h0
    rw [hs1, hw 1] at h1
    exact ⟨by simpa using h0, by simpa using h1⟩
  · rintro ⟨h0, h1⟩ a
    match a with
    | ⟨0, _⟩ => exact (congrArg₂ (fun (s : ℤ) (t : ℕ) => s + (t : ℤ)) hs0 (hw 0)).trans (by rw [h0]; simp)
    | ⟨1, _⟩ => exact (congrArg₂ (fun (s : ℤ) (t : ℕ) => s + (t : ℤ)) hs1 (hw 1)).trans (by rw [h1]; simp)

open Classical in
/-- A sum scattered to pairs: each entry gains the numbers whose pair names it. -/
theorem scatter_apply (x : FVec I ⟨2, ![128, 128]⟩ .f32) (idx : IVec ⟨2, ![A, 2]⟩ 32) (u : FVec I ⟨1, ![A]⟩ .f32) (r c : Fin 128) :
    Host.scatterAdd (toPairs w) x idx u (ix2 r c)
      = x (ix2 r c) + ∑ n : Fin A, if (idx (ix2 n (0 : Fin 2))).toInt = r.val ∧ (idx (ix2 n (1 : Fin 2))).toInt = c.val then u (ix1 n) else 0 := by
  show x (ix2 r c) + ∑ j ∈ Finset.univ.filter (fun j => (toPairs w).resultIdx? j idx = some (ix2 r c)), u j = _
  rw [Finset.sum_filter, ← Equiv.sum_comp (idxEquiv1 (n := A)).symm]
  refine congrArg (x (ix2 r c) + ·) (Finset.sum_congr rfl fun n _ => ?_)
  exact if_congr (lands_iff w idx n r c) rfl rfl

end Scatter

section Gather

variable {A : ℕ} (w : GatherDims.WF ⟨2, ![128, 128]⟩ ⟨2, ![A, 2]⟩ ⟨1, ![A]⟩ [] [0, 1] [] [0, 1] [] 1 ![1, 1])

/-- The dimension numbers of a gather of `A` entries of a 128 x 128 array at `A` pairs. -/
abbrev atPairs : GatherDims ⟨2, ![128, 128]⟩ ⟨2, ![A, 2]⟩ ⟨1, ![A]⟩ := ⟨[], [0, 1], [], [], [0, 1], 1, ![1, 1], w⟩

/-- The entry gathered at pair `n`, where the pair's words are `r` and `c`. -/
theorem gather_apply {α : Type} (x : (⟨2, ![128, 128]⟩ : Shape).Idx → α) (idx : IVec ⟨2, ![A, 2]⟩ 32) (n : Fin A) (r c : Fin 128)
    (hr : idx (ix2 n (0 : Fin 2)) = BitVec.ofNat 32 r.val) (hc : idx (ix2 n (1 : Fin 2)) = BitVec.ofNat 32 c.val) :
    Host.gather (atPairs w) x idx (ix1 n) = x (ix2 r c) := by
  have word : ∀ k : Fin 128, min (BitVec.ofNat 32 k.val).toInt.toNat (128 - 1) = k.val := fun k => by
    have := k.isLt
    rw [toInt_ofNat_of_lt (by omega)]
    omega
  have e0 : (atPairs w).siIdx (ix1 n) ⟨0, Nat.zero_lt_two⟩ = ix2 n (0 : Fin 2) := funext fun b => Fin.ext (by
    match b with
    | ⟨0, _⟩ => rfl
    | ⟨1, _⟩ => rfl)
  have e1 : (atPairs w).siIdx (ix1 n) ⟨1, Nat.one_lt_two⟩ = ix2 n (1 : Fin 2) := funext fun b => Fin.ext (by
    match b with
    | ⟨0, _⟩ => rfl
    | ⟨1, _⟩ => rfl)
  refine congrArg x (funext fun a => Fin.ext ?_)
  match a with
  | ⟨0, _⟩ =>
    show min (idx ((atPairs w).siIdx (ix1 n) ⟨0, _⟩)).toInt.toNat (128 - 1) + 0 + 0 = r.val
    rw [e0, hr, word, Nat.add_zero]
  | ⟨1, _⟩ =>
    show min (idx ((atPairs w).siIdx (ix1 n) ⟨1, _⟩)).toInt.toNat (128 - 1) + 0 + 0 = c.val
    rw [e1, hc, word, Nat.add_zero]

end Gather

end Cert.Recall
end
-- ==== Proof.Reference.lean ====
/-
  What the reference computes from the two vectors of arg-max words and the given table.
-/
module

public import proofs.«01_k».proof.Proof.Pairs
public import proofs.«01_k».proof.Proof.Gen.ReferenceIdeal
public import Idealize.ShloMosaic.Lib.Pointwise.Index

@[expose] public section

noncomputable section

namespace Cert.Recall

open Idealize.ShloMosaic hiding ix0 ix1 ix2
open Idealize.ShloMosaic.ValueIdx Idealize.ShloMosaic.WordCmp Cert.ReferenceIdeal Cert.ReferenceIdeal.Gen
open scoped BigOperators

local notation "I" => Idealize.ShloMosaic.Ideal

/-- The pairs (first word, second word) of the rows, as the reference lists them. -/
def rowPairs (T P : IVec S500000 32) : IVec S500000x2 32 :=
  concatenate S500000x2 1
    [⟨S500000x1, broadcastInDim S500000x1 ![0] bcast_S500000_S500000x1_0
      (select (cmpi .slt T (broadcastInDim S500000 ![] bcast_S_S500000 (constantI S_ 32 0#32)))
        (addi T (broadcastInDim S500000 ![] bcast_S_S500000 (constantI S_ 32 128#32))) T)⟩,
     ⟨S500000x1, broadcastInDim S500000x1 ![0] bcast_S500000_S500000x1_0
      (select (cmpi .slt P (broadcastInDim S500000 ![] bcast_S_S500000 (constantI S_ 32 0#32)))
        (addi P (broadcastInDim S500000 ![] bcast_S_S500000 (constantI S_ 32 128#32))) P)⟩]
    concatenates_S500000x1_S500000x1_S500000x2_d1

/-- The pairs (k, k) of the diagonal, as the reference lists them. -/
def diagPairs : IVec S128x2 32 :=
  concatenate S128x2 1
    [⟨S128x1, broadcastInDim S128x1 ![0] bcast_S128_S128x1_0
      (select (cmpi .slt (iotaInDim S128 32 0) (broadcastInDim S128 ![] bcast_S_S128 (constantI S_ 32 0#32)))
        (addi (iotaInDim S128 32 0) (broadcastInDim S128 ![] bcast_S_S128 (constantI S_ 32 128#32))) (iotaInDim S128 32 0))⟩,
     ⟨S128x1, broadcastInDim S128x1 ![0] bcast_S128_S128x1_0
      (select (cmpi .slt (iotaInDim S128 32 0) (broadcastInDim S128 ![] bcast_S_S128 (constantI S_ 32 0#32)))
        (addi (iotaInDim S128 32 0) (broadcastInDim S128 ![] bcast_S_S128 (constantI S_ 32 128#32))) (iotaInDim S128 32 0))⟩]
    concatenates_S128x1_S128x1_S128x2_d1

/-- The reference's table: the given one plus a one for every row, at the row's pair. -/
def refTable (cm : FVec I S128x128 .f32) (T P : IVec S500000 32) : FVec I S128x128 .f32 :=
  addf cm (Host.scatterAdd scatter_S128x128_S500000x2_S500000_n_01_01_1
    (broadcastInDim S128x128 ![] bcast_S_S128x128 (constant S_ .f32 0x00000000#32)) (rowPairs T P)
    (broadcastInDim S500000 ![] bcast_S_S500000 (constant S_ .f32 0x3F800000#32)))

/-- The reference's result. -/
def refValue (cm : FVec I S128x128 .f32) (T P : IVec S500000 32) : FVec I S_ .f32 :=
  Host.divf (Host.reduceAdd (Host.divf (Host.gather gather_S128x128_S128x2_S128_n_01_n_n_01_1_11 (refTable cm T P) diagPairs)
      (addf (Host.reduceAdd (refTable cm T P) (constant S_ .f32 0x00000000#32) reducesTo_S128x128_S128_d1 h_S_)
        (broadcastInDim S128 ![] bcast_S_S128 (constant S_ .f32 0x34000000#32))))
    (constant S_ .f32 0x00000000#32) reducesTo_S128_S_d0 h_S_) (constant S_ .f32 0x43000000#32)

/-- A vector of words names the rows' first greatest elements. -/
def Names (x : FVec I S500000x128 .f32) (T : IVec S500000 32) : Prop :=
  ∀ n : Fin 500000, ∃ i : Fin 128, IsFirst (row x n) i ∧ T (ix1 n) = BitVec.ofNat 32 i.val

/-- The components of pair `n` are the words of row `n`. -/
theorem rowPairs_apply (T P : IVec S500000 32) (n : Fin 500000) (i j : Fin 128) (hT : T (ix1 n) = BitVec.ofNat 32 i.val)
    (hP : P (ix1 n) = BitVec.ofNat 32 j.val) :
    rowPairs T P (ix2 n (0 : Fin 2)) = BitVec.ofNat 32 i.val ∧ rowPairs T P (ix2 n (1 : Fin 2)) = BitVec.ofNat 32 j.val := by
  unfold rowPairs
  exact ⟨(pair_fst _ _ concatenates_S500000x1_S500000x1_S500000x2_d1 n).trans
      ((stand_apply (by norm_num) bcast_S500000_S500000x1_0 _ n).trans (wrap_eq T _ _ (ix1 n) i rfl hT)),
    (pair_snd _ _ concatenates_S500000x1_S500000x1_S500000x2_d1 n).trans
      ((stand_apply (by norm_num) bcast_S500000_S500000x1_0 _ n).trans (wrap_eq P _ _ (ix1 n) j rfl hP))⟩

/-- The components of pair `k` of the diagonal are `k` and `k`. -/
theorem diagPairs_apply (k : Fin 128) :
    diagPairs (ix2 k (0 : Fin 2)) = BitVec.ofNat 32 k.val ∧ diagPairs (ix2 k (1 : Fin 2)) = BitVec.ofNat 32 k.val := by
  unfold diagPairs
  exact ⟨(pair_fst _ _ concatenates_S128x1_S128x1_S128x2_d1 k).trans
      ((stand_apply (by norm_num) bcast_S128_S128x1_0 _ k).trans (wrap_eq _ _ _ (ix1 k) k rfl rfl)),
    (pair_snd _ _ concatenates_S128x1_S128x1_S128x2_d1 k).trans
      ((stand_apply (by norm_num) bcast_S128_S128x1_0 _ k).trans (wrap_eq _ _ _ (ix1 k) k rfl rfl))⟩

/-- A pair's words are `r` and `c` exactly when its row's first greatest elements stand there. -/
theorem rowPairs_toInt (x y : FVec I S500000x128 .f32) (T P : IVec S500000 32) (hT : Names x T) (hP : Names y P) (n : Fin 500000)
    (r c : Fin 128) :
    ((rowPairs T P (ix2 n (0 : Fin 2))).toInt = r.val ∧ (rowPairs T P (ix2 n (1 : Fin 2))).toInt = c.val)
      ↔ IsFirst (row x n) r ∧ IsFirst (row y n) c := by
  obtain ⟨i, hi, ei⟩ := hT n
  obtain ⟨j, hj, ej⟩ := hP n
  obtain ⟨e0, e1⟩ := rowPairs_apply T P n i j ei ej
  have := i.isLt
  have := j.isLt
  rw [e0, e1, toInt_ofNat_of_lt (by omega), toInt_ofNat_of_lt (by omega)]
  constructor
  · rintro ⟨h, h'⟩
    have e : i = r := Fin.ext (by omega)
    have e' : j = c := Fin.ext (by omega)
    exact ⟨e ▸ hi, e' ▸ hj⟩
  · rintro ⟨h, h'⟩
    rw [hi.unique h, hj.unique h']
    exact ⟨rfl, rfl⟩

/-- The reference's table at an entry: the given table's entry plus the count. -/
theorem refTable_apply (x y : FVec I S500000x128 .f32) (cm : FVec I S128x128 .f32) (T P : IVec S500000 32) (hT : Names x T) (hP : Names y P)
    (r c : Fin 128) : refTable cm T P (ix2 r c) = cm (ix2 r c) + count x y r c := by
  classical
  unfold refTable
  rw [ValueIdx.addf_apply]
  refine congrArg (cm (ix2 r c) + ·) ((scatter_apply scatter_S128x128_S500000x2_S500000_n_01_01_1_wf _ (rowPairs T P) _ r c).trans ?_)
  rw [show (broadcastInDim S128x128 ![] bcast_S_S128x128 (constant S_ .f32 0x00000000#32 : FVec I S_ .f32)) (ix2 r c) = (0 : EReal) from Ideal.ofBits_zero_f32,
    zero_add]
  refine Finset.sum_congr rfl fun n _ => ?_
  rw [mark_mul_mark]
  exact if_congr (rowPairs_toInt x y T P hT hP n r c) Ideal.ofBits_one_f32 rfl

end Cert.Recall
end
-- ==== Proof.Result.lean ====
/-
  The reference's result, from its table to the one number it returns.
-/
module

public import proofs.«01_k».proof.Proof.Reference

@[expose] public section

noncomputable section

namespace Cert.Recall

open Idealize.ShloMosaic hiding ix0 ix1 ix2
open Idealize.ShloMosaic.ValueIdx Cert.ReferenceIdeal Cert.ReferenceIdeal.Gen
open scoped BigOperators

local notation "I" => Idealize.ShloMosaic.Ideal

/-- The host's sums of the rows of a 128 x 128 array. -/
theorem hostRowSum_apply (x : FVec I S128x128 .f32) (r : Fin 128) :
    (Host.reduceAdd x (constant S_ .f32 0x00000000#32) reducesTo_S128x128_S128_d1 h_S_ : FVec I S128 .f32) (ix1 r) = ∑ c : Fin 128, x (ix2 r c) := by
  have h : S128x128.Reduces [1] S128 := by decide
  rw [hostReduceAdd_apply]
  refine (Ideal.hostReduceAdd_single reducesTo_S128x128_S128_d1 h x _ (ix1 r)).trans ?_
  rw [show (constant S_ .f32 0x00000000#32 : FVec I S_ .f32) (Shape.Idx.first h_S_) = (0 : EReal) from Ideal.ofBits_zero_f32, zero_add]
  exact Finset.sum_congr rfl fun c _ => congrArg x (lift_row (A := 128) (B := 128) h r c)

/-- The host's sum of a vector of 128 numbers. -/
theorem hostTotal_apply (v : FVec I S128 .f32) (i : S_.Idx) :
    (Host.reduceAdd v (constant S_ .f32 0x00000000#32) reducesTo_S128_S_d0 h_S_ : FVec I S_ .f32) i = ∑ r : Fin 128, v (ix1 r) := by
  rw [hostReduceAdd_apply]
  refine (Ideal.hostReduceAdd_total reducesTo_S128_S_d0 (fun b => b.elim0) v _ i).trans ?_
  rw [show (constant S_ .f32 0x00000000#32 : FVec I S_ .f32) (Shape.Idx.first h_S_) = (0 : EReal) from Ideal.ofBits_zero_f32, zero_add]
  refine (sum_idx1 (n0 := 128) v).trans (Finset.sum_congr rfl fun r _ => congrArg v (funext fun a => ?_))
  match a with | ⟨0, _⟩ => rfl

/-- **The reference's result**: the recalls of its table added up, over the number of classes. -/
theorem refValue_eq (x y : FVec I S500000x128 .f32) (cm : FVec I S128x128 .f32) (T P : IVec S500000 32) (hT : Names x T) (hP : Names y P) :
    refValue cm T P = fun _ => Ideal.div (recallSum fun r c => cm (ix2 r c) + count x y r c) classes := by
  funext i
  unfold refValue
  rw [hostDivf_apply, hostTotal_apply]
  refine congrArg (Ideal.div · classes) (Finset.sum_congr rfl fun r _ => ?_)
  rw [hostDivf_apply, ValueIdx.addf_apply, hostRowSum_apply]
  simp only [refTable_apply x y cm T P hT hP]
  refine congrArg₂ Ideal.div ?_ rfl
  exact (gather_apply gather_S128x128_S128x2_S128_n_01_n_n_01_1_11_wf (refTable cm T P) diagPairs r r r (diagPairs_apply r).1 (diagPairs_apply r).2).trans
    (refTable_apply x y cm T P hT hP r r)

end Cert.Recall
end
-- ==== Proof.Equation.lean ====
/-
  The two programs' results are equal over the extended reals.
-/
module

public import proofs.«01_k».proof.Defs
public import proofs.«01_k».proof.Proof.Scratch
public import proofs.«01_k».proof.Proof.ArgMax
public import proofs.«01_k».proof.Proof.Result
public import Idealize.ShloMosaic.Lib.Claim
public import Idealize.ShloMosaic.Lib.Quiescent

@[expose] public section

noncomputable section

namespace Cert.Recall

open Idealize.ShloMosaic hiding ix0 ix1 ix2
open Idealize.ShloMosaic.ValueIdx Idealize.ShloMosaic.TcCoe Idealize.SL.Sem

local notation "I" => Idealize.ShloMosaic.Ideal

/-- The reference's arg-max words name the rows' first greatest elements. -/
theorem names_argReduce (x : FVec I ReferenceIdeal.S500000x128 .f32) :
    Names x (fun j => (Host.argReduce ReferenceIdeal.reducer_argmax_f32_i32 x (iotaInDim ReferenceIdeal.S500000x128 32 1)
      (constant ReferenceIdeal.S_ .f32 0xFF800000#32) (constantI ReferenceIdeal.S_ 32 0#32)
      ReferenceIdeal.Gen.reducesTo_S500000x128_S500000_d1 ReferenceIdeal.Gen.h_S_ j).2) :=
  fun n => argReduce_row x _ _ _ ReferenceIdeal.Gen.reducesTo_S500000x128_S500000_d1 ReferenceIdeal.Gen.h_S_ n
    (fun _ => rfl) (fun _ => ofBits_neg_inf) (fun _ => rfl)

/-- The reference's number is the kernel's, whatever words name the rows' first greatest elements. -/
theorem refValue_eq_kernelValue (m : (ℓ : Loc KernelIdeal.nD KernelIdeal.τ KernelIdeal.sig) → Buf (Elt I) ℓ) (c : Dev KernelIdeal.nD)
    (T P : IVec ReferenceIdeal.S500000 32) (hT : Names (arg0 m c) T) (hP : Names (arg1 m c) P) :
    refValue (arg2 m c) T P = fun _ => kernelValue m c := by
  rw [refValue_eq (arg0 m c) (arg1 m c) (arg2 m c) T P hT hP]
  funext i
  rw [div_classes]
  exact congrArg (recallSum · * oneOver128) (funext fun r => funext fun k => add_comm _ _)

/-- **The equation**: from memories that agree on the arguments both programs run to the end, leave the arguments as they
    were, and return the same extended real. -/
theorem algebraic : Cert.algebraic_KernelIdeal_ReferenceIdeal := by
  pair_intro
  · run_from Cert.KernelIdeal.Gen.run_main m g
  · hlo_run
    simp -implicitDefEqProofs only [StableHlo.TRef.toBuf, StableHlo.TRef.ofBuf, cast_cast, cast_eq]
    refine Eq.trans ?_ (result_eq m c).symm
    exact refValue_eq_kernelValue m c _ _ (names_argReduce (arg0 m c)) (names_argReduce (arg1 m c))

/-- The reference runs to the end and leaves its arguments as they were. -/
theorem reference_frame : Cert.quiescent_ReferenceIdeal := by
  intro m g _
  hlo_run
  · exact fun _ => ⟨trivial, trivial, trivial⟩
  · exact sem_eq_zero_of_no_sems (sig := ReferenceIdeal.sig) (by decide) _

end Cert.Recall
end
-- ==== Proof.lean ====
/-
  The proof of the certificate's claims: the three programs run to the end and leave their arguments as they were, the
  idealized kernel is the kernel read over the extended reals, and it returns what the reference returns.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem Cert.Kernel

/-- All five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, Cert.Recall.reference_frame,
    trivial, Cert.Recall.algebraic⟩

end Cert.Proof

end
